-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "v2_init" .f32 0x44CC0F91#32 ((461168601842738790400 / 282494591793853209 : ℝ) : EReal)
  ∧ IdealRules.named_const.Statement Cert.KernelIdeal.κ "decay" .f32 0x3F7D70A4#32 ((531502203 / 536870912 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4000x64 : Shape := ⟨3, ![256, 4000, 64]⟩
abbrev S4000x64x256 : Shape := ⟨3, ![4000, 64, 256]⟩
abbrev S400x64x128 : Shape := ⟨3, ![400, 64, 128]⟩
abbrev S64x128 : Shape := ⟨2, ![64, 128]⟩
abbrev S1x64x128 : Shape := ⟨3, ![1, 64, 128]⟩

abbrev nBuf : Space → Nat
  | .hbm => 4
  | .vmem => 6
  | .smem => 0
  | _ => 0

abbrev bufTy : (tb : Table) → Fin (tcTables nBuf tb) → BufTy
  | .hbm, ⟨0, _⟩ => ⟨S256x4000x64, .f32⟩
  | .hbm, ⟨1, _⟩ => ⟨S4000x64x256, .f32⟩
  | .hbm, ⟨2, _⟩ => ⟨S4000x64x256, .f32⟩
  | .hbm, ⟨3, _⟩ => ⟨S256x4000x64, .f32⟩
  | .local _ .vmem, ⟨0, _⟩ => ⟨S400x64x128, .f32⟩
  | .local _ .vmem, ⟨1, _⟩ => ⟨S400x64x128, .f32⟩
  | .local _ .vmem, ⟨2, _⟩ => ⟨S400x64x128, .f32⟩
  | .local _ .vmem, ⟨3, _⟩ => ⟨S400x64x128, .f32⟩
  | .local _ .vmem, ⟨4, _⟩ => ⟨S64x128, .f32⟩
  | .local _ .vmem, ⟨5, _⟩ => ⟨S64x128, .f32⟩
  | _, _ => ⟨S256x4000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S400x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S400x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== KernelIdeal.lean ====
variable {F : FTy → Type} [FloatOps F] [Named F]
def κ : String → Option EReal := fun
  | "decay" => some ((531502203 / 536870912 : ℝ) : EReal)
  | "v2_init" => some ((461168601842738790400 / 282494591793853209 : ℝ) : EReal)
  | _ => none
-- ==== ReferenceIdeal.lean ====
abbrev S256x4000x64 : Shape := ⟨3, ![256, 4000, 64]⟩
abbrev S64 : Shape := ⟨1, ![64]⟩
abbrev S_ : Shape := ⟨0, ![]⟩
abbrev S1x64 : Shape := ⟨2, ![1, 64]⟩
abbrev S256x64 : Shape := ⟨2, ![256, 64]⟩
abbrev S4000x256x64 : Shape := ⟨3, ![4000, 256, 64]⟩
abbrev S1x256x64 : Shape := ⟨3, ![1, 256, 64]⟩

abbrev nBuf : Space → Nat
  | .hbm => 52
  | .vmem => 0
  | .smem => 0
  | _ => 0

abbrev bufTy : (tb : Table) → Fin (tcTables nBuf tb) → BufTy
  | .hbm, ⟨0, _⟩ => ⟨S256x4000x64, .f32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S1x64, .f32⟩
  | .hbm, ⟨9, _⟩ => ⟨S256x64, .f32⟩
  | .hbm, ⟨10, _⟩ => ⟨S_, .f32⟩
  | .hbm, ⟨11, _⟩ => ⟨S256x64, .f32⟩
  | .hbm, ⟨12, _⟩ => ⟨S_, .f32⟩
  | .hbm, ⟨13, _⟩ => ⟨S256x64, .f32⟩
  | .hbm, ⟨14, _⟩ => ⟨S_, .f32⟩
  | .hbm, ⟨15, _⟩ => ⟨S256x64, .f32⟩
  | .hbm, ⟨16, _⟩ => ⟨S256x64, .f32⟩
  | .hbm, ⟨17, _⟩ => ⟨S4000x256x64, .f32⟩
  | .hbm, ⟨18, _⟩ => ⟨S_, .f32⟩
  | .hbm, ⟨19, _⟩ => ⟨S4000x256x64, .f32⟩
  | .hbm, ⟨20, _⟩ => ⟨S_, .i32⟩
  | .hbm, ⟨21, _⟩ => ⟨S4000x256x64, .f32⟩
  | .hbm, ⟨22, _⟩ => ⟨S256x64, .f32⟩
  | .hbm, ⟨23, _⟩ => ⟨S256x64, .f32⟩
  | .hbm, ⟨24, _⟩ => ⟨S_, .i32⟩
  | .hbm, ⟨25, _⟩ => ⟨S256x64, .f32⟩
  | .hbm, ⟨26, _⟩ => ⟨S256x64, .f32⟩
  | .hbm, ⟨27, _⟩ => ⟨S4000x256x64, .f32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S1x256x64, .f32⟩
  | .hbm, ⟨33, _⟩ => ⟨S256x64, .f32⟩
  | .hbm, ⟨34, _⟩ => ⟨S256x64, .f32⟩
  | .hbm, ⟨35, _⟩ => ⟨S256x64, .f32⟩
  | .hbm, ⟨36, _⟩ => ⟨S256x64, .f32⟩
  | .hbm, ⟨37, _⟩ => ⟨S256x64, .f32⟩
  | .hbm, ⟨38, _⟩ => ⟨S256x64, .f32⟩
  | .hbm, ⟨39, _⟩ => ⟨S256x64, .f32⟩
  | .hbm, ⟨40, _⟩ => ⟨S256x64, .f32⟩
  | .hbm, ⟨41, _⟩ => ⟨S256x64, .f32⟩
  | .hbm, ⟨42, _⟩ => ⟨S256x64, .f32⟩
  | .hbm, ⟨43, _⟩ => ⟨S256x64, .f32⟩
  | .hbm, ⟨44, _⟩ => ⟨S256x64, .f32⟩
  | .hbm, ⟨45, _⟩ => ⟨S1x256x64, .f32⟩
  | .hbm, ⟨46, _⟩ => ⟨S_, .i32⟩
  | .hbm, ⟨47, _⟩ => ⟨S_, .i32⟩
  | .hbm, ⟨48, _⟩ => ⟨S4000x256x64, .f32⟩
  | .hbm, ⟨49, _⟩ => ⟨S_, .i32⟩
  | .hbm, ⟨50, _⟩ => ⟨S_, .i32⟩
  | .hbm, ⟨51, _⟩ => ⟨S256x4000x64, .f32⟩
  | _, _ => ⟨S256x4000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_c : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v13_5 : Ref sig .tc := ⟨.hbm, 26, rfl⟩
abbrev main_v13_6 : Ref sig .tc := ⟨.hbm, 27, rfl⟩
abbrev main_while0c_c_11 : Ref sig .tc := ⟨.hbm, 28, rfl⟩
abbrev main_while0c_v15 : Ref sig .tc := ⟨.hbm, 29, rfl⟩
abbrev main_while0b_call0_c : Ref sig .tc := ⟨.hbm, 30, rfl⟩
abbrev main_while0b_call0_c_0 : Ref sig .tc := ⟨.hbm, 31, rfl⟩
abbrev main_while0b_call0_v0 : Ref sig .tc := ⟨.hbm, 32, rfl⟩
abbrev main_while0b_v15 : Ref sig .tc := ⟨.hbm, 33, rfl⟩
abbrev main_while0b_v16 : Ref sig .tc := ⟨.hbm, 34, rfl⟩
abbrev main_while0b_v17 : Ref sig .tc := ⟨.hbm, 35, rfl⟩
abbrev main_while0b_v18 : Ref sig .tc := ⟨.hbm, 36, rfl⟩
abbrev main_while0b_v19 : Ref sig .tc := ⟨.hbm, 37, rfl⟩
abbrev main_while0b_v20 : Ref sig .tc := ⟨.hbm, 38, rfl⟩
abbrev main_while0b_v21 : Ref sig .tc := ⟨.hbm, 39, rfl⟩
abbrev main_while0b_v22 : Ref sig .tc := ⟨.hbm, 40, rfl⟩
abbrev main_while0b_v23 : Ref sig .tc := ⟨.hbm, 41, rfl⟩
abbrev main_while0b_v24 : Ref sig .tc := ⟨.hbm, 42, rfl⟩
abbrev main_while0b_v25 : Ref sig .tc := ⟨.hbm, 43, rfl⟩
abbrev main_while0b_v26 : Ref sig .tc := ⟨.hbm, 44, rfl⟩
abbrev main_while0b_call1_v0 : Ref sig .tc := ⟨.hbm, 45, rfl⟩
abbrev main_while0b_call1_c : Ref sig .tc := ⟨.hbm, 46, rfl⟩
abbrev main_while0b_call1_c_0 : Ref sig .tc := ⟨.hbm, 47, rfl⟩
abbrev main_while0b_v27 : Ref sig .tc := ⟨.hbm, 48, rfl⟩
abbrev main_while0b_c_11 : Ref sig .tc := ⟨.hbm, 49, rfl⟩
abbrev main_while0b_v28 : Ref sig .tc := ⟨.hbm, 50, rfl⟩
abbrev main_v14 : Ref sig .tc := ⟨.hbm, 51, rfl⟩

abbrev nD : Nat := 1
abbrev τ : Topo := Topo.v7x

variable {F : FTy → Type} [FloatOps F]

abbrev main_while0_count : Scf.Loop 32 := ⟨0#32, 4000#32, 1#32⟩
-- ==== Proof.Lane.lean ====
/-
  One lane — one (batch, feature) pair — of the running normaliser, over the extended reals. The kernel keeps the mean
  and the variance divided by the square of the decay, and measures a value against the mean before it is moved; the
  reference keeps the variance itself and measures against the moved mean. The two give the same outputs at every value,
  the infinite ones included.
-/
module

public import Idealize.ShloMosaic.PureOps.Ideal

@[expose] public section

noncomputable section

namespace Cert.Lane

open Idealize.ShloMosaic

/-- The gain: the rational that the f32 literal of 0.01 is. -/
def gain : ℝ := 5368709 / 536870912

/-- The decay: one minus the gain. -/
def decay : ℝ := 531502203 / 536870912

/-- The gain is positive. -/
theorem gain_pos : 0 < gain := by unfold gain; norm_num

/-- The decay is positive. -/
theorem decay_pos : 0 < decay := by unfold decay; norm_num

/-- The two weights add up to one. -/
theorem decay_eq : decay = 1 - gain := by unfold decay gain; norm_num

/-- What a lane carries from one time to the next: its mean and its (scaled) variance. -/
abbrev Carry := EReal × EReal

/-- The kernel's step: the mean moves by the gain times the error, the scaled variance by the error squared. -/
def kerStep (s : Carry) (x : EReal) : Carry :=
  (s.1 + (gain : EReal) * (x - s.1), (decay : EReal) * s.2 + (gain : EReal) * ((x - s.1) * (x - s.1)))

/-- The kernel's output at a value: the error times the reciprocal root of the new scaled variance. -/
def kerOut (s : Carry) (x : EReal) : EReal := (x - s.1) * Ideal.rsqrt (kerStep s x).2

/-- The reference's new mean. -/
def refMean (s : Carry) (x : EReal) : EReal := (decay : EReal) * s.1 + (gain : EReal) * x

/-- The reference's step: the new mean, and the variance about the new mean. -/
def refStep (s : Carry) (x : EReal) : Carry :=
  (refMean s x, (decay : EReal) * s.2 + (gain : EReal) * ((x - refMean s x) * (x - refMean s x)))

/-- The reference's output at a value: its distance from the new mean over the root of the new variance. -/
def refOut (s : Carry) (x : EReal) : EReal := Ideal.div (x - refMean s x) (Ideal.sqrt (refStep s x).2)

/-- How the two lanes stand to each other at every time: either both are at the same finite mean and the reference's
    variance is the kernel's times the decay squared, or an infinite value has been met and both variances are
    infinite. -/
def Meets (k r : Carry) : Prop :=
  (∃ mu v : ℝ, 0 < v ∧ k = ((mu : EReal), (v : EReal)) ∧ r = ((mu : EReal), ((decay ^ 2 * v : ℝ) : EReal)))
    ∨ (k.2 = ⊤ ∧ r.2 = ⊤)

/-- The square of an extended real is never minus infinity, and neither is the gain times it. -/
theorem gain_mul_square_ne_bot (e : EReal) : (gain : EReal) * (e * e) ≠ ⊥ := by
  induction e using EReal.rec with
  | bot => rw [EReal.bot_mul_bot, EReal.coe_mul_top_of_pos gain_pos]; exact top_ne_bot
  | coe r => rw [← EReal.coe_mul, ← EReal.coe_mul]; exact EReal.coe_ne_bot _
  | top => rw [EReal.top_mul_top, EReal.coe_mul_top_of_pos gain_pos]; exact top_ne_bot

/-- An infinite variance stays infinite. -/
theorem variance_top (e : EReal) : (decay : EReal) * ⊤ + (gain : EReal) * (e * e) = ⊤ := by
  rw [EReal.coe_mul_top_of_pos decay_pos, EReal.top_add_of_ne_bot (gain_mul_square_ne_bot e)]

/-- A finite variance is infinite after an infinite square. -/
theorem variance_of_square_top (v : ℝ) {e : EReal} (he : e * e = ⊤) :
    (decay : EReal) * (v : EReal) + (gain : EReal) * (e * e) = ⊤ := by
  rw [he, EReal.coe_mul_top_of_pos gain_pos, ← EReal.coe_mul, EReal.coe_add_top]

/-- Anything over the root of an infinite variance is zero. -/
theorem div_sqrt_top (d : EReal) : Ideal.div d (Ideal.sqrt ⊤) = 0 := by
  rw [Ideal.sqrt_top]
  unfold Ideal.div
  rw [if_neg EReal.top_ne_zero, EReal.inv_top, mul_zero]

/-- The lanes at an infinite variance: they still meet after a step, and both outputs are zero. -/
theorem top_case {k r : Carry} (hk : k.2 = ⊤) (hr : r.2 = ⊤) (x : EReal) :
    Meets (kerStep k x) (refStep r x) ∧ kerOut k x = refOut r x := by
  have h1 : (kerStep k x).2 = ⊤ := by unfold kerStep; rw [hk]; exact variance_top _
  have h2 : (refStep r x).2 = ⊤ := by unfold refStep; rw [hr]; exact variance_top _
  refine ⟨Or.inr ⟨h1, h2⟩, ?_⟩
  unfold kerOut refOut
  rw [h1, h2, div_sqrt_top, Ideal.rsqrt_top, mul_zero]

/-- From finite carries an infinite value makes both variances infinite and both outputs zero. -/
theorem infinite_case (mu v w : ℝ) {x : EReal} (hx : x = ⊥ ∨ x = ⊤) :
    Meets (kerStep ((mu : EReal), (v : EReal)) x) (refStep ((mu : EReal), (w : EReal)) x)
      ∧ kerOut ((mu : EReal), (v : EReal)) x = refOut ((mu : EReal), (w : EReal)) x := by
  have e1 : (x - (mu : EReal)) * (x - (mu : EReal)) = ⊤ := by
    rcases hx with rfl | rfl
    · rw [EReal.bot_sub, EReal.bot_mul_bot]
    · rw [EReal.top_sub_coe, EReal.top_mul_top]
  have e2 : x - refMean ((mu : EReal), (w : EReal)) x = ⊥ := by
    unfold refMean
    rcases hx with rfl | rfl
    · exact EReal.bot_sub _
    · rw [EReal.coe_mul_top_of_pos gain_pos, ← EReal.coe_mul, EReal.coe_add_top, EReal.sub_top]
  have h1 : (kerStep ((mu : EReal), (v : EReal)) x).2 = ⊤ := variance_of_square_top v e1
  have h2 : (refStep ((mu : EReal), (w : EReal)) x).2 = ⊤ :=
    variance_of_square_top w (by rw [e2, EReal.bot_mul_bot])
  refine ⟨Or.inr ⟨h1, h2⟩, ?_⟩
  unfold kerOut refOut
  rw [h1, h2, div_sqrt_top, Ideal.rsqrt_top, mul_zero]

/-- From finite carries a finite value keeps the lanes in step: the reference's new distance is the decay times the
    kernel's error, its new variance the decay squared times the kernel's, and the decay cancels in the output. -/
theorem finite_case (mu v y : ℝ) (hv : 0 < v) :
    Meets (kerStep ((mu : EReal), (v : EReal)) y) (refStep ((mu : EReal), ((decay ^ 2 * v : ℝ) : EReal)) y)
      ∧ kerOut ((mu : EReal), (v : EReal)) y = refOut ((mu : EReal), ((decay ^ 2 * v : ℝ) : EReal)) y := by
  have hd := decay_pos
  set v' : ℝ := decay * v + gain * ((y - mu) * (y - mu)) with hv'
  have hpos : 0 < v' := add_pos_of_pos_of_nonneg (mul_pos hd hv) (mul_nonneg gain_pos.le (mul_self_nonneg _))
  have k1 : kerStep ((mu : EReal), (v : EReal)) y = (((mu + gain * (y - mu) : ℝ) : EReal), (v' : EReal)) := by
    unfold kerStep; rw [hv']; push_cast; rfl
  have m1 : refMean ((mu : EReal), ((decay ^ 2 * v : ℝ) : EReal)) y = ((mu + gain * (y - mu) : ℝ) : EReal) := by
    unfold refMean
    rw [show mu + gain * (y - mu) = decay * mu + gain * y by rw [decay_eq]; ring]
    push_cast; rfl
  have d1 : (y : EReal) - ((mu + gain * (y - mu) : ℝ) : EReal) = ((decay * (y - mu) : ℝ) : EReal) := by
    rw [← EReal.coe_sub, decay_eq]; congr 1; ring
  have r1 : refStep ((mu : EReal), ((decay ^ 2 * v : ℝ) : EReal)) y
      = (((mu + gain * (y - mu) : ℝ) : EReal), ((decay ^ 2 * v' : ℝ) : EReal)) := by
    unfold refStep
    rw [m1, d1]
    refine Prod.ext rfl ?_
    show (decay : EReal) * ((decay ^ 2 * v : ℝ) : EReal) + (gain : EReal) * (_ * _) = _
    rw [← EReal.coe_mul, ← EReal.coe_mul, ← EReal.coe_mul, ← EReal.coe_add, hv']
    congr 1; ring
  refine ⟨Or.inl ⟨_, v', hpos, k1, r1⟩, ?_⟩
  unfold kerOut refOut
  rw [k1, r1, m1, d1]
  show ((y : EReal) - (mu : EReal)) * Ideal.rsqrt (v' : EReal) = Ideal.div _ (Ideal.sqrt ((decay ^ 2 * v' : ℝ) : EReal))
  have hs : 0 < Real.sqrt v' := Real.sqrt_pos.mpr hpos
  have hroot : Real.sqrt (decay ^ 2 * v') = decay * Real.sqrt v' := by
    rw [Real.sqrt_mul (sq_nonneg _), Real.sqrt_sq hd.le]
  rw [Ideal.rsqrt_coe, if_neg hpos.not_gt, if_neg hpos.ne', Ideal.sqrt_coe,
    if_neg (mul_pos (pow_pos hd 2) hpos).not_gt, hroot, Ideal.div_coe (mul_pos hd hs).ne',
    ← EReal.coe_sub, ← EReal.coe_mul, ← EReal.coe_mul]
  congr 1
  field_simp

/-- One step: lanes that meet still meet, and their outputs are equal. -/
theorem step_meets {k r : Carry} (h : Meets k r) (x : EReal) :
    Meets (kerStep k x) (refStep r x) ∧ kerOut k x = refOut r x := by
  rcases h with ⟨mu, v, hv, rfl, rfl⟩ | ⟨hk, hr⟩
  · induction x using EReal.rec with
    | bot => exact infinite_case mu v _ (Or.inl rfl)
    | coe y => exact finite_case mu v y hv
    | top => exact infinite_case mu v _ (Or.inr rfl)
  · exact top_case hk hr x

/-- A lane run over a series from a start: the carry before time `t`. -/
def run (step : Carry → EReal → Carry) (s : Carry) (x : ℕ → EReal) : ℕ → Carry
  | 0 => s
  | t + 1 => step (run step s x t) (x t)

/-- Lanes that start as they should give the same output at every time. -/
theorem outputs_eq {k r : Carry} (h : Meets k r) (x : ℕ → EReal) (t : ℕ) :
    Meets (run kerStep k x t) (run refStep r x t)
      ∧ kerOut (run kerStep k x t) (x t) = refOut (run refStep r x t) (x t) := by
  have hm : Meets (run kerStep k x t) (run refStep r x t) := by
    induction t with
    | zero => exact h
    | succ t ih => exact (step_meets ih (x t)).1
  exact ⟨hm, (step_meets hm (x t)).2⟩

end Cert.Lane

end
-- ==== Proof.Frames.lean ====
/-
  The claims that say nothing of the values: both kernel programs and the reference run and leave their argument and
  every semaphore as they were, and the two constants named in the idealized kernel are the rationals they stand for.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Frames

open Idealize.ShloMosaic Idealize.ShloMosaic.TcCoe Idealize.SL.Sem

/-- The printed kernel runs, leaves its argument unchanged and every semaphore at zero. -/
theorem frame_kernel : Cert.quiescent_Kernel := fun m ρ _ => Cert.Kernel.Gen.frame (F := Bits) m ρ

/-- So does the idealized kernel. -/
theorem frame_kernelIdeal : Cert.quiescent_KernelIdeal := fun m ρ _ => Cert.KernelIdeal.Gen.frame (F := Ideal) m ρ

/-- So does the reference: its run leaves the argument unchanged, and it declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The start of the scaled variance and the decay, as named. -/
theorem preserves : Cert.preserves_Kernel_KernelIdeal :=
  ⟨IdealRules.named_const.statement Cert.KernelIdeal.κ "v2_init" .f32 0x44CC0F91#32
      ((461168601842738790400 / 282494591793853209 : ℝ) : EReal) rfl,
    IdealRules.named_const.statement Cert.KernelIdeal.κ "decay" .f32 0x3F7D70A4#32
      ((531502203 / 536870912 : ℝ) : EReal) rfl⟩

end Cert.Frames

end
-- ==== Proof.Body.lean ====
/-
  What one grid point's 400 unrolled steps leave, as a recursion: the carry steps from row to row, the output's rows are
  what each step puts out, and the two scratch buffers end at the last carry. At the first point of a series the carry
  starts from the two constant fills, at a later point from what the point before left.
-/
module

public import proofs.«01_k».proof.Proof.Gen.KernelIdeal.Frame
public import Idealize.ShloMosaic.Lib.WritesUnit
public import Idealize.ShloMosaic.Lib.Pipeline.Value
public import Idealize.ShloMosaic.Lib.Pointwise.ShapeOpsCore

@[expose] public section

set_option maxRecDepth 16384

noncomputable section

namespace Cert.KernelIdeal.Body

open Idealize.ShloMosaic Idealize.ShloMosaic.TcCoe Cert.KernelIdeal Cert.KernelIdeal.Gen

variable {F : FTy → Type} [FloatOps F] [Named F]

/-- Where row `t` of a block starts. -/
def rowOff (t : ℕ) : Fin 3 → ℕ := ![t % 400, 0, 0]

/-- A row lies inside its block. -/
theorem row_inb (t : ℕ) (a : Fin 3) : rowOff t a + S1x64x128.size a ≤ S400x64x128.size a := by
  have := Nat.mod_lt t (show 0 < 400 by decide)
  match a with
  | 0 => show t % 400 + 1 ≤ 400; omega
  | 1 => exact Nat.le_refl 64
  | 2 => exact Nat.le_refl 128

/-- Row `t` of a block. -/
def rowRect (t : ℕ) : Rect S400x64x128 := Rect.unit (rowOff t) S1x64x128.size (row_inb t)

/-- A scratch buffer whole. -/
abbrev fullRect : Rect S64x128 := Rect.unit ![0, 0] S64x128.size inb_S64x128_S64x128_0_0

/-- The carry (mean, scaled variance) before row `t`, from a start, over the rows `rd`. -/
def carry (rd : ℕ → Vec F S1x64x128 .f32) (mu v2 : Vec F S64x128 .f32) (t : ℕ) :
    Vec F S64x128 .f32 × Vec F S64x128 .f32 :=
  Nat.rec (mu, v2) (fun t s => (k0_pay8 s.1 (rd t), k0_pay9 s.1 s.2 (rd t))) t

/-- The row that step `t` puts out. -/
def outRow (rd : ℕ → Vec F S1x64x128 .f32) (mu v2 : Vec F S64x128 .f32) (t : ℕ) : Vec F S1x64x128 .f32 :=
  k0_pay10 (carry rd mu v2 t).1 (carry rd mu v2 t).2 (rd t)

/-- The 400 stores of the output's rows. -/
def rowPieces (rd : ℕ → Vec F S1x64x128 .f32) (mu v2 : Vec F S64x128 .f32) :
    List (View.Piece (Elt F) S400x64x128 .f32) :=
  View.tilePieces (s := S400x64x128) (NT := 400) S1x64x128.size (fun t => rowOff t.val) (fun t => row_inb t.val)
    (fun t => outRow rd mu v2 t.val) 400 le_rfl

/-- The last store of the mean's scratch. -/
def meanPiece (rd : ℕ → Vec F S1x64x128 .f32) (mu v2 : Vec F S64x128 .f32) : View.Piece (Elt F) S64x128 .f32 :=
  ⟨fullRect, k0_pay3 (carry rd mu v2 400).1⟩

/-- The last store of the variance's scratch. -/
def variancePiece (rd : ℕ → Vec F S1x64x128 .f32) (mu v2 : Vec F S64x128 .f32) : View.Piece (Elt F) S64x128 .f32 :=
  ⟨fullRect, shapeCast S64x128 (carry rd mu v2 400).2 shapeCasts_S64x128_S64x128⟩

/-- A block's rows as the body loads them. -/
abbrev rowsIn {arg2 : Memref sig .tc .vmem S400x64x128 .f32} (harg2 : arg2.IsWhole) (x0 : Vec F S400x64x128 .f32)
    (t : ℕ) : Vec F S1x64x128 .f32 :=
  View.readAt (Elt F) arg2.view (rowRect t).toLoadRect (harg2.unread x0)

/-- A scratch buffer as the body loads it at a later point. -/
abbrev scratchIn {arg : Memref sig .tc .vmem S64x128 .f32} (harg : arg.IsWhole) (xs : Vec F S64x128 .f32) :
    Vec F S64x128 .f32 :=
  View.readAt (Elt F) arg.view fullRect.toLoadRect (harg.unread xs)

/-- A scratch buffer as the body loads it after the fill `w`. -/
abbrev filledIn (arg : Memref sig .tc .vmem S64x128 .f32) (w : Vec F S64x128 .f32) : Vec F S64x128 .f32 :=
  arg.view.readCov [(⟨fullRect, w⟩ : View.Piece (Elt F) S64x128 .f32)] fullRect.toLoadRect

section Pieces

variable (c : Dev nD) (i : grid0.Coords) (arg2 : Memref sig .tc .vmem S400x64x128 .f32) (harg2 : arg2.IsWhole)
  (arg3 : Memref sig .tc .vmem S400x64x128 .f32) (harg3 : arg3.IsWhole)
  (arg4 : Memref sig .tc .vmem S64x128 .f32) (harg4 : arg4.IsWhole)
  (arg5 : Memref sig .tc .vmem S64x128 .f32) (harg5 : arg5.IsWhole)
  (x0 : Vec F S400x64x128 .f32) (xs0 xs1 : Vec F S64x128 .f32)

/-- At a later point the output's stores are the recursion's rows. -/
theorem rows_B (hc0 : ¬cond0_0 i) :
    (kernelRun0_B c i arg2 harg2 arg3 harg3 arg4 harg4 arg5 harg5 hc0 x0 xs0 xs1).1
      = rowPieces (rowsIn harg2 x0) (scratchIn harg4 xs0) (scratchIn harg5 xs1) := by
  sl_kernel_rfl

/-- At a later point the mean's scratch ends at the last carry. -/
theorem mean_B (hc0 : ¬cond0_0 i) :
    (kernelRun0_B c i arg2 harg2 arg3 harg3 arg4 harg4 arg5 harg5 hc0 x0 xs0 xs1).2.1
      = [meanPiece (rowsIn harg2 x0) (scratchIn harg4 xs0) (scratchIn harg5 xs1)] := by
  sl_kernel_rfl

/-- At a later point the variance's scratch ends at the last carry. -/
theorem variance_B (hc0 : ¬cond0_0 i) :
    (kernelRun0_B c i arg2 harg2 arg3 harg3 arg4 harg4 arg5 harg5 hc0 x0 xs0 xs1).2.2.1
      = [variancePiece (rowsIn harg2 x0) (scratchIn harg4 xs0) (scratchIn harg5 xs1)] := by
  sl_kernel_rfl

/-- At the first point the output's stores are the recursion's rows, from the fills. -/
theorem rows_A (hc0 : cond0_0 i) :
    (kernelRun0_A c i arg2 harg2 arg3 harg3 arg4 harg4 arg5 harg5 hc0 x0).1
      = rowPieces (rowsIn harg2 x0) (filledIn arg4 k0_pay5) (filledIn arg5 k0_pay6) := by
  sl_kernel_rfl

/-- At the first point the mean's scratch ends at the last carry, over its fill. -/
theorem mean_A (hc0 : cond0_0 i) :
    (kernelRun0_A c i arg2 harg2 arg3 harg3 arg4 harg4 arg5 harg5 hc0 x0).2.1
      = [meanPiece (rowsIn harg2 x0) (filledIn arg4 k0_pay5) (filledIn arg5 k0_pay6), ⟨fullRect, k0_pay5⟩] := by
  sl_kernel_rfl

/-- At the first point the variance's scratch ends at the last carry, over its fill. -/
theorem variance_A (hc0 : cond0_0 i) :
    (kernelRun0_A c i arg2 harg2 arg3 harg3 arg4 harg4 arg5 harg5 hc0 x0).2.2.1
      = [variancePiece (rowsIn harg2 x0) (filledIn arg4 k0_pay5) (filledIn arg5 k0_pay6), ⟨fullRect, k0_pay6⟩] := by
  sl_kernel_rfl

end Pieces

/-- The rectangle of a whole scratch starts at zero. -/
theorem full_off : (![0, 0] : Fin 2 → ℕ) = fun _ => 0 := by
  funext a
  match a with
  | 0 => rfl
  | 1 => rfl

/-- Row `t` of a block's contents. -/
def row (x : Vec F S400x64x128 .f32) (t : ℕ) : Vec F S1x64x128 .f32 := View.ld x (rowRect t)

/-- The rows the body loads are the block's. -/
theorem rowsIn_eq {arg2 : Memref sig .tc .vmem S400x64x128 .f32} (harg2 : arg2.IsWhole) (x0 : Vec F S400x64x128 .f32) :
    rowsIn harg2 x0 = row x0 := by
  funext t
  show View.readAt (Elt F) arg2.view (rowRect t).toLoadRect (harg2.unread x0) = View.ld x0 (rowRect t)
  rw [View.readAt_eq_ld, harg2.read_unread]

/-- The scratch the body loads at a later point is what it holds. -/
theorem scratchIn_eq {arg : Memref sig .tc .vmem S64x128 .f32} (harg : arg.IsWhole) (xs : Vec F S64x128 .f32) :
    scratchIn harg xs = xs := by
  show View.readAt (Elt F) arg.view fullRect.toLoadRect (harg.unread xs) = xs
  rw [View.readAt_eq_ld, harg.read_unread]
  exact View.ld_unit_zero full_off _ xs

/-- The scratch the body loads after a fill is the fill. -/
theorem filledIn_eq (arg : Memref sig .tc .vmem S64x128 .f32) (w : Vec F S64x128 .f32) : filledIn arg w = w :=
  View.readCov_unit_zero arg.view full_off _ w

/-- A cast to its own shape changes nothing. -/
theorem cast_self (v : Vec F S64x128 .f32) : shapeCast S64x128 v shapeCasts_S64x128_S64x128 = v :=
  funext fun y => congrArg v (Shape.reshapeEquiv_eq_of_rowMajor _ rfl)

/-- What a list of stores headed by the mean's last store leaves in the mean's scratch. -/
theorem mean_left {sg : Memref sig .tc .vmem S64x128 .f32} (rd : ℕ → Vec F S1x64x128 .f32) (mu v2 : Vec F S64x128 .f32)
    (L : List (View.Piece (Elt F) S64x128 .f32)) :
    sg.view.read (Elt F) (sg.view.writes (Elt F) sg.view.junk (meanPiece rd mu v2 :: L)) = (carry rd mu v2 400).1 := by
  refine (funext fun y => View.read_writes_junk_apply_eq_canon _ y _).trans ?_
  refine (View.canon_cons_unit_zero full_off _ _ L).trans ?_
  exact cast_self _

/-- What a list of stores headed by the variance's last store leaves in the variance's scratch. -/
theorem variance_left {sg : Memref sig .tc .vmem S64x128 .f32} (rd : ℕ → Vec F S1x64x128 .f32)
    (mu v2 : Vec F S64x128 .f32) (L : List (View.Piece (Elt F) S64x128 .f32)) :
    sg.view.read (Elt F) (sg.view.writes (Elt F) sg.view.junk (variancePiece rd mu v2 :: L))
      = (carry rd mu v2 400).2 := by
  refine (funext fun y => View.read_writes_junk_apply_eq_canon _ y _).trans ?_
  refine (View.canon_cons_unit_zero full_off _ _ L).trans ?_
  exact cast_self _

/-- What the 400 stores leave in row `t` of the output's block. -/
theorem rows_left {sg : Memref sig .tc .vmem S400x64x128 .f32} (g : sg.view.ty.Contents (Elt F))
    (rd : ℕ → Vec F S1x64x128 .f32) (mu v2 : Vec F S64x128 .f32) (t : Fin 400) (f : Fin 64) (b : Fin 128) :
    sg.view.read (Elt F) (sg.view.writes (Elt F) g (rowPieces rd mu v2)) (ix3 t f b)
      = outRow rd mu v2 t.val (ix3 0 f b) := by
  have ht : t.val % 400 = t.val := Nat.mod_eq_of_lt t.isLt
  refine View.read_tilePieces sg.view g S1x64x128.size (fun t : Fin 400 => rowOff t.val) (fun t => row_inb t.val)
    (fun t => outRow rd mu v2 t.val) 400 le_rfl (ix3 t f b) t t.isLt (ix3 0 f b) (fun a => ?_) 0 (fun i' hi' => ?_)
  · match a with
    | 0 => show t.val = t.val % 400 + 0; omega
    | 1 => exact (Nat.zero_add _).symm
    | 2 => exact (Nat.zero_add _).symm
  · show t.val < i'.val % 400 ∨ i'.val % 400 + 1 ≤ t.val
    have h1 : i'.val % 400 = i'.val := Nat.mod_eq_of_lt i'.isLt
    have h2 : i'.val ≠ t.val := fun h => hi' (Fin.ext h)
    omega

end Cert.KernelIdeal.Body

end
-- ==== Proof.Consts.lean ====
/-
  The constants that the two programs write as f32 literals, as the reals they are, and the two named constants.
-/
module

public import proofs.«01_k».proof.Proof.Gen.KernelIdeal
public import proofs.«01_k».proof.Proof.Lane
public import Idealize.ShloMosaic.PureOps.IdealRules
public import Idealize.ShloMosaic.Lib.DynamicIndex

@[expose] public section

noncomputable section

namespace Cert.Consts

open Idealize.ShloMosaic

/-- The slope of the first means over the features. -/
def slope : ℝ := -15978301 / 33554432

/-- The mean that feature `f` starts from. -/
def mean0 (f : ℕ) : ℝ := -60 + (f : ℝ) * slope

/-- The scaled variance that the kernel starts from: 1600 over the decay squared. -/
def scaled0 : ℝ := 1600 / Lane.decay ^ 2

/-- The literal of the gain. -/
theorem gain_bits : Ideal.ofBits .f32 0x3C23D70A#32 = (Lane.gain : EReal) := by
  unfold Lane.gain; simp [Ideal.ofBits, Ideal.ieee, -EReal.coe_mul]; norm_num

/-- The literal of one. -/
theorem one_bits : Ideal.ofBits .f32 0x3F800000#32 = ((1 : ℝ) : EReal) := by
  simp [Ideal.ofBits, Ideal.ieee, -EReal.coe_mul]; norm_num

/-- The literal of the first variance. -/
theorem variance_bits : Ideal.ofBits .f32 0x44C80000#32 = ((1600 : ℝ) : EReal) := by
  simp [Ideal.ofBits, Ideal.ieee, -EReal.coe_mul]; norm_num

/-- The literal of the first mean's offset. -/
theorem sixty_bits : Ideal.ofBits .f32 0xC2700000#32 = ((-60 : ℝ) : EReal) := by
  simp [Ideal.ofBits, Ideal.ieee, -EReal.coe_mul]; norm_num

/-- The literal of the slope. -/
theorem slope_bits : Ideal.ofBits .f32 0xBEF3CF3D#32 = (slope : EReal) := by
  unfold slope; simp [Ideal.ofBits, Ideal.ieee, -EReal.coe_mul]; norm_num

/-- The mean that both programs compute for feature `f` before the first time. -/
theorem mean_bits (f : ℕ) (hf : f < 64) :
    Ideal.ofBits .f32 0xC2700000#32
        + ((((BitVec.ofNat 32 f).toInt : ℤ) : ℝ) : EReal) * Ideal.ofBits .f32 0xBEF3CF3D#32 = (mean0 f : EReal) := by
  rw [sixty_bits, slope_bits, toInt_ofNat_of_lt (by omega), ← EReal.coe_mul, ← EReal.coe_add, mean0]
  rfl

/-- The kernel's constant named "decay" is the decay. -/
theorem decay_named : Named.named (F := Ideal) Cert.KernelIdeal.κ "decay" (φ := .f32) 0x3F7D70A4#32 = (Lane.decay : EReal) := by
  unfold Lane.decay
  exact IdealRules.named_const.ideal_named_scalar _ _ _ _ rfl

/-- The kernel's constant named "v2_init" is 1600 over the decay squared. -/
theorem scaled0_named : Named.named (F := Ideal) Cert.KernelIdeal.κ "v2_init" (φ := .f32) 0x44CC0F91#32 = (scaled0 : EReal) := by
  rw [show scaled0 = 461168601842738790400 / 282494591793853209 by unfold scaled0 Lane.decay; norm_num]
  exact IdealRules.named_const.ideal_named_scalar _ _ _ _ rfl

/-- The lanes meet at the start: the reference's 1600 is the decay squared times the kernel's start. -/
theorem meets0 (f : ℕ) :
    Lane.Meets ((mean0 f : EReal), (scaled0 : EReal)) ((mean0 f : EReal), ((1600 : ℝ) : EReal)) := by
  refine Or.inl ⟨mean0 f, scaled0, ?_, rfl, ?_⟩
  · exact div_pos (by norm_num) (pow_pos Lane.decay_pos 2)
  · rw [show Lane.decay ^ 2 * scaled0 = 1600 from mul_div_cancel₀ _ (pow_pos Lane.decay_pos 2).ne']

end Cert.Consts

end
-- ==== Proof.KernelLane.lean ====
/-
  One lane of the kernel's recursion: at a (feature, batch) pair the carry of `Body.carry` is the lane run of `Lane`, the
  row put out is the lane's output, and the two fills are the lane's start.
-/
module

public import proofs.«01_k».proof.Proof.Body
public import proofs.«01_k».proof.Proof.Lane
public import proofs.«01_k».proof.Proof.Consts

@[expose] public section

noncomputable section

namespace Cert.KernelIdeal.KernelLane

open Idealize.ShloMosaic Idealize.ShloMosaic.TcCoe Cert.KernelIdeal Cert.KernelIdeal.Gen
open Cert.KernelIdeal.Body Cert.Lane Cert.Consts

/-- A (feature, batch) array at a pair. -/
abbrev at2 (v : Vec Ideal S64x128 .f32) (f : Fin 64) (b : Fin 128) : EReal := v (ix2 f b)

/-- A one-row array at a pair. -/
abbrev at1 (v : Vec Ideal S1x64x128 .f32) (f : Fin 64) (b : Fin 128) : EReal := v (ix3 0 f b)

/-- A row without its unit axis. -/
theorem drop_row (x : Vec Ideal S1x64x128 .f32) (f : Fin 64) (b : Fin 128) :
    at2 (shapeCast S64x128 x shapeCasts_S1x64x128_S64x128) f b = at1 x f b := by
  refine (shapeCast_dropUnit_apply ![64, 128] _ _ (ix2 f b)).trans ?_
  show x _ = x _
  congr 1
  funext a
  match a with
  | 0 => rfl
  | 1 => rfl
  | 2 => rfl

/-- A row with a unit axis put in front. -/
theorem add_row (v : Vec Ideal S64x128 .f32) (f : Fin 64) (b : Fin 128) :
    at1 (shapeCast S1x64x128 v shapeCasts_S64x128_S1x64x128) f b = at2 v f b := by
  refine (shapeCast_addUnit_apply ![64, 128] v _ (ix3 0 f b)).trans ?_
  show v _ = v _
  congr 1
  funext a
  match a with
  | 0 => rfl
  | 1 => rfl

/-- The error at a pair. -/
theorem error_at (mu : Vec Ideal S64x128 .f32) (x : Vec Ideal S1x64x128 .f32) (f : Fin 64) (b : Fin 128) :
    at2 (k0_pay7 mu x) f b = at1 x f b - at2 mu f b := by
  have e : at2 (k0_pay7 mu x) f b
      = at2 (shapeCast S64x128 x shapeCasts_S1x64x128_S64x128) f b - at2 mu f b := rfl
  rw [e, drop_row]

/-- The new mean at a pair. -/
theorem mean_at (mu : Vec Ideal S64x128 .f32) (x : Vec Ideal S1x64x128 .f32) (f : Fin 64) (b : Fin 128) :
    at2 (k0_pay8 mu x) f b = at2 mu f b + (gain : EReal) * (at1 x f b - at2 mu f b) := by
  have e : at2 (k0_pay8 mu x) f b
      = at2 mu f b + Ideal.ofBits .f32 0x3C23D70A#32 * at2 (k0_pay7 mu x) f b := rfl
  rw [e, error_at, gain_bits]

/-- The new scaled variance at a pair. -/
theorem variance_at (mu v2 : Vec Ideal S64x128 .f32) (x : Vec Ideal S1x64x128 .f32) (f : Fin 64) (b : Fin 128) :
    at2 (k0_pay9 mu v2 x) f b = (decay : EReal) * at2 v2 f b
      + (gain : EReal) * ((at1 x f b - at2 mu f b) * (at1 x f b - at2 mu f b)) := by
  have e : at2 (k0_pay9 mu v2 x) f b
      = Named.named (F := Ideal) Cert.KernelIdeal.κ "decay" (φ := .f32) 0x3F7D70A4#32 * at2 v2 f b
        + Ideal.ofBits .f32 0x3C23D70A#32 * (at2 (k0_pay7 mu x) f b * at2 (k0_pay7 mu x) f b) := rfl
  rw [e, error_at, gain_bits, decay_named]

/-- The row put out at a pair. -/
theorem output_at (mu v2 : Vec Ideal S64x128 .f32) (x : Vec Ideal S1x64x128 .f32) (f : Fin 64) (b : Fin 128) :
    at1 (k0_pay10 mu v2 x) f b = kerOut (at2 mu f b, at2 v2 f b) (at1 x f b) := by
  have e : at1 (k0_pay10 mu v2 x) f b = at1 (shapeCast S1x64x128
      (mulf (k0_pay7 mu x) (rsqrt (k0_pay9 mu v2 x))) shapeCasts_S64x128_S1x64x128) f b := rfl
  have e' : at2 (mulf (k0_pay7 mu x) (rsqrt (k0_pay9 mu v2 x))) f b
      = at2 (k0_pay7 mu x) f b * Ideal.rsqrt (at2 (k0_pay9 mu v2 x) f b) := rfl
  rw [e, add_row, e', error_at, variance_at]
  rfl

/-- The series of one pair in a sequence of rows. -/
abbrev seriesOf (rd : ℕ → Vec Ideal S1x64x128 .f32) (f : Fin 64) (b : Fin 128) (t : ℕ) : EReal := at1 (rd t) f b

/-- The recursion's carry at a pair is the lane run. -/
theorem carry_at (rd : ℕ → Vec Ideal S1x64x128 .f32) (mu v2 : Vec Ideal S64x128 .f32) (f : Fin 64) (b : Fin 128) (t : ℕ) :
    (at2 (carry rd mu v2 t).1 f b, at2 (carry rd mu v2 t).2 f b)
      = run kerStep (at2 mu f b, at2 v2 f b) (seriesOf rd f b) t := by
  induction t with
  | zero => rfl
  | succ t ih =>
    show (at2 (k0_pay8 (carry rd mu v2 t).1 (rd t)) f b, at2 (k0_pay9 (carry rd mu v2 t).1 (carry rd mu v2 t).2 (rd t)) f b)
      = kerStep (run kerStep (at2 mu f b, at2 v2 f b) (seriesOf rd f b) t) (seriesOf rd f b t)
    rw [← ih, mean_at, variance_at]
    rfl

/-- The row that step `t` puts out at a pair is the lane's output. -/
theorem outRow_at (rd : ℕ → Vec Ideal S1x64x128 .f32) (mu v2 : Vec Ideal S64x128 .f32) (f : Fin 64) (b : Fin 128) (t : ℕ) :
    at1 (outRow rd mu v2 t) f b
      = kerOut (run kerStep (at2 mu f b, at2 v2 f b) (seriesOf rd f b) t) (seriesOf rd f b t) := by
  rw [← carry_at]
  exact output_at _ _ _ f b

/-- The mean's fill at a pair. -/
theorem fill_mean (f : Fin 64) (b : Fin 128) : at2 (k0_pay5 (F := Ideal)) f b = (mean0 f.val : EReal) := by
  have e : (k0_pay5 (F := Ideal)) = shapeCast S64x128 (addf (broadcast S64x128 (Scalar.ofBits .f32 0xC2700000#32))
      (mulf (sitofp .f32 (iota .tc S64x128 32 [0] iota_S64x128_d0_w32))
        (broadcast S64x128 (Scalar.ofBits .f32 0xBEF3CF3D#32)))) shapeCasts_S64x128_S64x128 := rfl
  rw [e]
  refine (congrFun (cast_self (F := Ideal) _) (ix2 f b)).trans ?_
  show Ideal.ofBits .f32 0xC2700000#32
    + ((((iota .tc S64x128 32 [0] iota_S64x128_d0_w32 (ix2 f b)).toInt : ℤ) : ℝ) : EReal) * Ideal.ofBits .f32 0xBEF3CF3D#32 = _
  rw [iota_single_apply .tc S64x128 32 0]
  exact mean_bits f.val f.isLt

/-- The scaled variance's fill at a pair. -/
theorem fill_variance (f : Fin 64) (b : Fin 128) : at2 (k0_pay6 (F := Ideal)) f b = (scaled0 : EReal) := by
  have e : (k0_pay6 (F := Ideal)) = shapeCast S64x128 (broadcast S64x128
      (Named.named (F := Ideal) Cert.KernelIdeal.κ "v2_init" (φ := .f32) 0x44CC0F91#32)) shapeCasts_S64x128_S64x128 := rfl
  rw [e]
  refine (congrFun (cast_self (F := Ideal) _) (ix2 f b)).trans ?_
  exact scaled0_named

/-- A run over two stretches: the second starts where the first ends and reads on from there. -/
theorem run_add (step : Carry → EReal → Carry) (s : Carry) (x : ℕ → EReal) (a b : ℕ) :
    run step s x (a + b) = run step (run step s x a) (fun t => x (a + t)) b := by
  induction b with
  | zero => rfl
  | succ b ih =>
    show step (run step s x (a + b)) (x (a + b)) = step _ _
    rw [ih]

/-- A run reads only the values before its end. -/
theorem run_congr (step : Carry → EReal → Carry) (s : Carry) {x y : ℕ → EReal} (n : ℕ) (h : ∀ t, t < n → x t = y t) :
    run step s x n = run step s y n := by
  induction n with
  | zero => rfl
  | succ n ih =>
    show step _ _ = step _ _
    rw [ih fun t ht => h t (Nat.lt_succ_of_lt ht), h n (Nat.lt_succ_self n)]

end Cert.KernelIdeal.KernelLane

end
-- ==== Proof.Reference.lean ====
/-
  The reference's run, lane by lane. Before trip `n` of its loop the carried buffers hold, at every (batch, feature)
  pair, the lane run `n` steps, and in every row below `n` of the outputs the lane's output at that time.
-/
module

public import proofs.«01_k».proof.Proof.Gen.ReferenceIdeal.Run
public import proofs.«01_k».proof.Proof.Lane
public import proofs.«01_k».proof.Proof.Consts
public import Idealize.ShloMosaic.Lib.Pipeline.Value
public import Idealize.ShloMosaic.Lib.Pointwise.ShapeOpsCore
public import Idealize.ShloMosaic.Lib.ValueIdxCoords
public import Idealize.ShloMosaic.Lib.DynamicIndex
public import Idealize.ShloMosaic.Lib.WordCmp

@[expose] public section

set_option maxRecDepth 8192

noncomputable section

namespace Cert.RefRun

open Cert.ReferenceIdeal Cert.ReferenceIdeal.Gen Cert.ReferenceIdeal.Value Cert.Lane Cert.Consts
open Idealize.ShloMosaic Idealize.ShloMosaic.TcCoe Idealize.ShloMosaic.StableHlo Idealize.ShloMosaic.Tactic
open Idealize.SL.Sem

/-- The starts of the slice that reads or writes the row a counter word names. -/
def starts (w : Vec Ideal S_ .i32) : Fin 3 → Int :=
  fun k => (((![w, constantI S_ 32 0#32, constantI S_ 32 0#32] : Fin 3 → Vec Ideal S_ .i32)) k
    (Shape.Idx.first h_S_)).toInt

/-- At a counter below 4000 the starts are the counter, zero and zero. -/
theorem starts_ofNat (n : ℕ) (hn : n < 4000) (a : Fin 3) :
    starts (constantI S_ 32 (BitVec.ofNat 32 n)) a = ((![n, 0, 0] : Fin 3 → ℕ) a : Int) := by
  match a with
  | 0 => exact toInt_ofNat_of_lt (by omega)
  | 1 => rfl
  | 2 => rfl

/-- Row `n` lies inside the series. -/
theorem fits (n : ℕ) (hn : n < 4000) : S4000x256x64.Slices ![n, 0, 0] S1x256x64 :=
  ⟨rfl, fun a => by
    match a with
    | 0 => show n + 1 ≤ 4000; omega
    | 1 => exact Nat.le_refl 256
    | 2 => exact Nat.le_refl 64⟩

/-- Row `n` read out of a series is the series at time `n`. -/
theorem row_read (x : Vec Ideal S4000x256x64 .f32) (n : ℕ) (hn : n < 4000) (b : Fin 256) (f : Fin 64) :
    shapeCast S256x64 (Host.dynamicSlice S1x256x64 x (starts (constantI S_ 32 (BitVec.ofNat 32 n)))
      sliceFits_S4000x256x64_S1x256x64) shapeCasts_S1x256x64_S256x64 (ix2 b f) = x (ix3 ⟨n, hn⟩ b f) := by
  rw [Host.dynamicSlice_eq_extractStridedSlice S1x256x64 x _ ![n, 0, 0] _ (fits n hn) (starts_ofNat n hn)]
  refine (shapeCast_dropUnit_apply ![256, 64] _ _ (ix2 b f)).trans ?_
  unfold extractStridedSlice
  congr 1
  funext a
  match a with
  | 0 => exact Fin.ext (Nat.add_zero n)
  | 1 => exact Fin.ext (Nat.zero_add b.val)
  | 2 => exact Fin.ext (Nat.zero_add f.val)

/-- Row `n` written into the outputs: the new row at `n`, the old rows elsewhere. -/
theorem row_write (x : Vec Ideal S4000x256x64 .f32) (u : Vec Ideal S256x64 .f32) (n : ℕ) (hn : n < 4000)
    (t : Fin 4000) (b : Fin 256) (f : Fin 64) :
    Host.dynamicUpdateSlice x (broadcastInDim S1x256x64 ![1, 2] bcast_S256x64_S1x256x64_1_2 u)
      (starts (constantI S_ 32 (BitVec.ofNat 32 n))) updateFits_S4000x256x64_S1x256x64 (ix3 t b f)
      = if t.val = n then u (ix2 b f) else x (ix3 t b f) := by
  rw [WordCmp.dynamicUpdateSlice_eq_update x _ _ _ ![n, 0, 0] (fits n hn) (starts_ofNat n hn)]
  unfold updateSlice
  split_ifs with h1 h2 h2
  · unfold broadcastInDim
    congr 1
    funext a
    match a with
    | 0 => rfl
    | 1 => rfl
  · have := h1 0
    exact absurd (show t.val = n by have h3 : n ≤ t.val := this.1; have h4 : t.val < n + 1 := this.2; omega) h2
  · refine absurd (fun a => ?_) h1
    match a with
    | 0 => exact ⟨h2.ge, by show t.val < n + 1; omega⟩
    | 1 => exact ⟨Nat.zero_le _, by show b.val < 0 + 256; omega⟩
    | 2 => exact ⟨Nat.zero_le _, by show f.val < 0 + 64; omega⟩
  · rfl

/-- A (batch, feature) array at a pair. -/
abbrev at2 (v : Vec Ideal S256x64 .f32) (b : Fin 256) (f : Fin 64) : EReal := v (ix2 b f)

/-- A (time, batch, feature) array at a triple. -/
abbrev at3 (v : Vec Ideal S4000x256x64 .f32) (t : Fin 4000) (b : Fin 256) (f : Fin 64) : EReal := v (ix3 t b f)

/-- The time series of one (batch, feature) pair of the argument; zero past its end. -/
def series (x : Vec Ideal S256x4000x64 .f32) (b : Fin 256) (f : Fin 64) (t : ℕ) : EReal :=
  if h : t < 4000 then x (ix3 b ⟨t, h⟩ f) else 0

/-- Before its end the series is the argument. -/
theorem series_of_lt (x : Vec Ideal S256x4000x64 .f32) (b : Fin 256) (f : Fin 64) {t : ℕ} (h : t < 4000) :
    series x b f t = x (ix3 b ⟨t, h⟩ f) := dif_pos h

/-- What a lane of the reference starts from. -/
def start (f : Fin 64) : Carry := ((mean0 f.val : EReal), ((1600 : ℝ) : EReal))

/-- The carry of one lane before time `t`. -/
def carryAt (x : Vec Ideal S256x4000x64 .f32) (b : Fin 256) (f : Fin 64) (t : ℕ) : Carry :=
  run refStep (start f) (series x b f) t

/-- What the loop's buffers hold before trip `n`. -/
structure Holds (x : Vec Ideal S256x4000x64 .f32) (V : Valuation τ sig (Elt Ideal)) (n : ℕ) : Prop where
  rows : ∀ (t : Fin 4000) b f, at3 (V (Proc.devRef .tc main_v13_0)) t b f
    = x (ix3 b t f)
  decays : ∀ b f, at2 (V (Proc.devRef .tc main_v13_1)) b f = (decay : EReal)
  gains : ∀ b f, at2 (V (Proc.devRef .tc main_v13_2)) b f = (gain : EReal)
  counter : V (Proc.devRef .tc main_v13_3) = constantI S_ 32 (BitVec.ofNat 32 n)
  means : ∀ b f, at2 (V (Proc.devRef .tc main_v13_4)) b f = (carryAt x b f n).1
  variances : ∀ b f, at2 (V (Proc.devRef .tc main_v13_5)) b f = (carryAt x b f n).2
  outputs : ∀ (t : Fin 4000) b f, t.val < n →
    at3 (V (Proc.devRef .tc main_v13_6)) t b f
      = refOut (carryAt x b f t.val) (series x b f t.val)

section Trip

variable {x : Vec Ideal S256x4000x64 .f32} {V : Valuation τ sig (Elt Ideal)} {n : ℕ}

/-- The row a trip reads is the series at the trip's time. -/
theorem trip_row (h : Holds x V n) (hn : n < 4000) (b : Fin 256) (f : Fin 64) :
    at2 (res_main_while0b_v15 V) b f = series x b f n := by
  rw [series_of_lt x b f hn, ← h.rows ⟨n, hn⟩ b f, res_main_while0b_v15, h.counter]
  exact row_read _ n hn b f

/-- A trip's new mean is the lane's. -/
theorem trip_mean (h : Holds x V n) (hn : n < 4000) (b : Fin 256) (f : Fin 64) :
    at2 (res_main_while0b_v18 V) b f = refMean (carryAt x b f n) (series x b f n) := by
  have e : at2 (res_main_while0b_v18 V) b f
      = at2 (V (Proc.devRef .tc main_v13_1)) b f
          * at2 (V (Proc.devRef .tc main_v13_4)) b f
        + at2 (V (Proc.devRef .tc main_v13_2)) b f
          * at2 (res_main_while0b_v15 V) b f := rfl
  rw [e, h.decays, h.gains, h.means, trip_row h hn, refMean]

/-- A trip's new variance is the lane's. -/
theorem trip_variance (h : Holds x V n) (hn : n < 4000) (b : Fin 256) (f : Fin 64) :
    at2 (res_main_while0b_v23 V) b f
      = (refStep (carryAt x b f n) (series x b f n)).2 := by
  have e : at2 (res_main_while0b_v23 V) b f
      = at2 (V (Proc.devRef .tc main_v13_1)) b f
          * at2 (V (Proc.devRef .tc main_v13_5)) b f
        + at2 (V (Proc.devRef .tc main_v13_2)) b f
          * ((at2 (res_main_while0b_v15 V) b f
                - at2 (res_main_while0b_v18 V) b f)
            * (at2 (res_main_while0b_v15 V) b f
                - at2 (res_main_while0b_v18 V) b f)) := rfl
  rw [e, h.decays, h.gains, h.variances, trip_row h hn, trip_mean h hn, refStep]

/-- The row a trip writes is the lane's output. -/
theorem trip_output (h : Holds x V n) (hn : n < 4000) (b : Fin 256) (f : Fin 64) :
    at2 (Host.divf (subf (res_main_while0b_v15 V) (res_main_while0b_v18 V)) (Host.sqrt (res_main_while0b_v23 V))) b f = refOut (carryAt x b f n) (series x b f n) := by
  have e : at2 (Host.divf (subf (res_main_while0b_v15 V) (res_main_while0b_v18 V)) (Host.sqrt (res_main_while0b_v23 V))) b f
      = Ideal.div (at2 (res_main_while0b_v15 V) b f
          - at2 (res_main_while0b_v18 V) b f)
        (Ideal.sqrt (at2 (res_main_while0b_v23 V) b f)) := rfl
  rw [e, trip_row h hn, trip_mean h hn, trip_variance h hn, refOut]

/-- One trip takes what is held before trip `n` to what is held before trip `n + 1`. -/
theorem trip (h : Holds x V n) (hn : n < 4000) : Holds x (STEP V) (n + 1) where
  rows t b f := by rw [STEP_main_v13_0]; exact h.rows t b f
  decays b f := by rw [STEP_main_v13_1]; exact h.decays b f
  gains b f := by rw [STEP_main_v13_2]; exact h.gains b f
  counter := by
    rw [STEP_main_v13_3, step_main_v13_3, h.counter, BitVec.ofNat_add]
    rfl
  means b f := by rw [STEP_main_v13_4, step_main_v13_4]; exact trip_mean h hn b f
  variances b f := by rw [STEP_main_v13_5, step_main_v13_5]; exact trip_variance h hn b f
  outputs t b f ht := by
    rw [STEP_main_v13_6, step_main_v13_6, h.counter]
    refine (row_write _ _ n hn t b f).trans ?_
    split_ifs with e
    · rw [e]; exact trip_output h hn b f
    · exact h.outputs t b f (by omega)

end Trip

/-- The batch and time axes exchanged, into the order the loop reads. -/
theorem swap_rows (x : Vec Ideal S256x4000x64 .f32) (t : Fin 4000) (b : Fin 256) (f : Fin 64) :
    at3 (transpose S4000x256x64 [1, 0, 2] x transposes_S256x4000x64_S4000x256x64_1_0_2) t b f = x (ix3 b t f) := by
  unfold at3 transpose
  congr 1
  funext a
  match a with
  | 0 => rfl
  | 1 => rfl
  | 2 => rfl

/-- The batch and time axes exchanged back. -/
theorem swap_back (y : Vec Ideal S4000x256x64 .f32) (b : Fin 256) (t : Fin 4000) (f : Fin 64) :
    transpose S256x4000x64 [1, 0, 2] y transposes_S4000x256x64_S256x4000x64_1_0_2 (ix3 b t f) = at3 y t b f := by
  unfold at3 transpose
  congr 1
  funext a
  match a with
  | 0 => rfl
  | 1 => rfl
  | 2 => rfl

section Entry

variable (m : (ℓ : Loc nD τ sig) → Buf (Elt Ideal) ℓ) (c : Dev nD)

/-- The argument on a device. -/
abbrev argOf : Vec Ideal S256x4000x64 .f32 := m ((c.tc : Thread nD τ).loc main_arg0)

set_option maxRecDepth 65536 in
/-- What the buffers hold where the loop starts. -/
theorem entry : Holds (argOf m c) (entryContents preI m c) 0 where
  rows t b f := by
    simp only [entryContents, afterL_cons, afterL_nil]
    after_reads_simp
    exact swap_rows (argOf m c) t b f
  decays b f := by
    simp only [entryContents, afterL_cons, afterL_nil]
    after_reads_simp
    show Ideal.ofBits .f32 0x3F800000#32 - Ideal.ofBits .f32 0x3C23D70A#32 = _
    rw [one_bits, gain_bits, decay_eq, EReal.coe_sub]
  gains b f := by
    simp only [entryContents, afterL_cons, afterL_nil]
    after_reads_simp
    exact gain_bits
  counter := by
    simp only [entryContents, afterL_cons, afterL_nil]
    after_reads_simp
    rfl
  means b f := by
    simp only [entryContents, afterL_cons, afterL_nil]
    after_reads_simp
    show Ideal.ofBits .f32 0xC2700000#32 + ((((BitVec.ofNat 32 f.val).toInt : ℤ) : ℝ) : EReal) * Ideal.ofBits .f32 0xBEF3CF3D#32 = _
    exact mean_bits f.val (by omega)
  variances b f := by
    simp only [entryContents, afterL_cons, afterL_nil]
    after_reads_simp
    exact variance_bits
  outputs t b f ht := absurd ht (Nat.not_lt_zero _)

/-- What the buffers hold before trip `n`. -/
theorem holds : ∀ n, n ≤ 4000 → Holds (argOf m c) (STEP^[n] (entryContents preI m c)) n
  | 0, _ => entry m c
  | n + 1, hn => by
    rw [Function.iterate_succ_apply']
    exact trip (holds n (by omega)) (by omega)

/-- The reference's result of an argument: at every index the lane's output. -/
def result (x : Vec Ideal S256x4000x64 .f32) : Vec Ideal S256x4000x64 .f32 :=
  fun i => refOut (carryAt x (i 0) (i 2) (i 1).val) (series x (i 0) (i 2) (i 1).val)

/-- What the reference returns is the lanes' outputs. -/
theorem out_eq : (out_main_v14 (STEP^[4000] (entryContents preI m c)) : Vec Ideal S256x4000x64 .f32)
    = result (argOf m c) := by
  funext i
  obtain ⟨b, t, f, rfl⟩ : ∃ (b : Fin 256) (t : Fin 4000) (f : Fin 64), i = ix3 b t f := ⟨i 0, i 1, i 2, eq_ix3 i⟩
  exact (swap_back _ b t f).trans ((holds m c 4000 le_rfl).outputs t b f t.isLt)

end Entry

/-- Every run of the reference ends with the lanes' outputs at its result and its argument as it was. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v14) : Vec Ideal S256x4000x64 .f32) = result (argOf m c)
      ∧ r.2.mem ((c.tc : Thread nD τ).loc main_arg0) = m ((c.tc : Thread nD τ).loc main_arg0) :=
  (θ_run defs _ _).mono (fun _ h c => ⟨(h c).1.trans (out_eq m c), (h c).2⟩) (Value.run m ρ)

end Cert.RefRun

end
-- ==== Proof.KernelPoints.lean ====
/-
  The kernel's grid points, lane by lane. Point `10 i + j` holds times `400 j` to `400 j + 399` of batches `128 i` to
  `128 i + 127`; after it the two scratch buffers hold the lanes' carries at time `400 (j + 1)`, and the block written
  back holds the lanes' outputs at its times.
-/
module

public import proofs.«01_k».proof.Proof.KernelLane
public import proofs.«01_k».proof.Proof.Reference

@[expose] public section

set_option maxRecDepth 16384

noncomputable section

namespace Cert.KernelIdeal.KernelPoints

open Idealize.ShloMosaic Idealize.ShloMosaic.TcCoe Idealize.ShloMosaic.StableHlo
open Cert.KernelIdeal Cert.KernelIdeal.Gen Cert.KernelIdeal.Body Cert.KernelIdeal.KernelLane Cert.Lane Cert.Consts
open Cert.RefRun (series series_of_lt)

/-- Which block the input's window has at a point. -/
theorem in_block : ∀ t : Fin cfg0.N, win0_0.index t (0 : Fin 3) = t.val % 10 ∧ win0_0.index t (1 : Fin 3) = 0
    ∧ win0_0.index t (2 : Fin 3) = t.val / 10 :=
  (by decide +kernel : ∀ t : Fin grid0.N, _)

/-- Which block the output's window has at a point. -/
theorem out_block : ∀ t : Fin cfg0.N, win0_1.index t (0 : Fin 3) = t.val % 10 ∧ win0_1.index t (1 : Fin 3) = 0
    ∧ win0_1.index t (2 : Fin 3) = t.val / 10 :=
  (by decide +kernel : ∀ t : Fin grid0.N, _)

/-- There are twenty points. -/
theorem point_lt (t : Fin cfg0.N) : t.val < 20 := Nat.lt_of_lt_of_eq t.isLt N_0

/-- The kernel's carry at a time: the lane's run from its start. -/
def carryAt (x : Vec Ideal S256x4000x64 .f32) (b : Fin 256) (f : Fin 64) (t : ℕ) : Carry :=
  run kerStep ((mean0 f.val : EReal), (scaled0 : EReal)) (series x b f) t

/-- The batch of a lane of a point's block. -/
def batch (n : ℕ) (hn : n < 20) (b : Fin 128) : Fin 256 := ⟨128 * (n / 10) + b.val, by omega⟩

section Points

variable (m : (ℓ : Loc nD τ sig) → Buf (Elt Ideal) ℓ) (c : Dev nD)

/-- The argument as launched. -/
abbrev arg : Vec Ideal S256x4000x64 .f32 := m ((c.tc : Thread nD τ).loc main_arg0)

/-- What the region finds in its input array: the argument with time first and batch last. -/
theorem entry_input : (V m c main_v0 : Vec Ideal S4000x64x256 .f32)
    = transpose S4000x64x256 [1, 2, 0] (arg m c) transposes_S256x4000x64_S4000x64x256_1_2_0 := by
  show StableHlo.after (List.flatten [hostOps0]) (fun b => m (c, b)) (Proc.devRef .tc main_v0) = _
  simp only [hostOps0, List.flatten_cons, List.flatten_nil, List.append_nil]
  after_results

/-- The input array at an index. -/
theorem entry_input_at (t : Fin 4000) (f : Fin 64) (b : Fin 256) :
    (V m c main_v0 : Vec Ideal S4000x64x256 .f32) (ix3 t f b) = arg m c (ix3 b t f) := by
  rw [entry_input]
  unfold transpose
  congr 1
  funext a
  match a with
  | 0 => rfl
  | 1 => rfl
  | 2 => rfl

/-- A row of a point's input block, at a pair, is the series at the row's time. -/
theorem block_row (t : Fin cfg0.N) (r : ℕ) (hr : r < 400) (f : Fin 64) (b : Fin 128) :
    seriesOf (row (iblk m c 0 t)) f b r = series (arg m c) (batch t.val (point_lt t) b) f (400 * (t.val % 10) + r) := by
  have ht : 400 * (t.val % 10) + r < 4000 := by omega
  rw [series_of_lt _ _ _ ht]
  refine Eq.trans ?_ (entry_input_at m c ⟨_, ht⟩ f (batch t.val (point_lt t) b))
  show (V m c main_v0 : Vec Ideal S4000x64x256 .f32) _ = (V m c main_v0 : Vec Ideal S4000x64x256 .f32) _
  congr 1
  obtain ⟨e0, e1, e2⟩ := in_block t
  have hr' : r % 400 = r := Nat.mod_eq_of_lt hr
  funext a
  apply Fin.ext
  match a with
  | 0 =>
    refine (Pipeline.Window.rect_emb_val win0_0 t _ (0 : Fin 3)).trans ?_
    show win0_0.index t (0 : Fin 3) * 400 + (r % 400 + 1 * 0) = 400 * (t.val % 10) + r
    rw [e0, hr']; omega
  | 1 =>
    refine (Pipeline.Window.rect_emb_val win0_0 t _ (1 : Fin 3)).trans ?_
    show win0_0.index t (1 : Fin 3) * 64 + (0 + 1 * f.val) = f.val
    rw [e1]; omega
  | 2 =>
    refine (Pipeline.Window.rect_emb_val win0_0 t _ (2 : Fin 3)).trans ?_
    show win0_0.index t (2 : Fin 3) * 128 + (0 + 1 * b.val) = 128 * (t.val / 10) + b.val
    rw [e2]; omega

/-- What a point leaves, over its input block and the carry it starts from: every lane of the scratch and of the block
    written back, the start being at time `n`. -/
structure Left (t : Fin cfg0.N) (mu v2 : Vec Ideal S64x128 .f32) : Prop where
  scratch : ∀ f b, (at2 (outsAt0 m c t.val t.isLt).2.1 f b, at2 (outsAt0 m c t.val t.isLt).2.2 f b)
    = run kerStep (at2 mu f b, at2 v2 f b) (seriesOf (row (iblk m c 0 t)) f b) 400
  rows : ∀ (r : Fin 400) f b, ((outsAt0 m c t.val t.isLt).1 (ix3 r f b) : EReal)
    = kerOut (run kerStep (at2 mu f b, at2 v2 f b) (seriesOf (row (iblk m c 0 t)) f b) r.val)
        (seriesOf (row (iblk m c 0 t)) f b r.val)

/-- The first point of a series starts from the fills. -/
theorem left_first (t : Fin cfg0.N) (h0 : t.val % 10 = 0) : Left m c t (k0_pay5 (F := Ideal)) (k0_pay6 (F := Ideal)) := by
  have e1 : (outsAt0 m c t.val t.isLt).2.1
      = (carry (row (iblk m c 0 t)) (k0_pay5 (F := Ideal)) (k0_pay6 (F := Ideal)) 400).1 := by
    rw [outsAt0_A m c t h0]
    dsimp only
    unfold sout0_A_0
    rw [mean_A, rowsIn_eq, filledIn_eq, filledIn_eq]
    exact mean_left _ _ _ _
  have e2 : (outsAt0 m c t.val t.isLt).2.2
      = (carry (row (iblk m c 0 t)) (k0_pay5 (F := Ideal)) (k0_pay6 (F := Ideal)) 400).2 := by
    rw [outsAt0_A m c t h0]
    dsimp only
    unfold sout0_A_1
    rw [variance_A, rowsIn_eq, filledIn_eq, filledIn_eq]
    exact variance_left _ _ _ _
  refine ⟨fun f b => ?_, fun r f b => ?_⟩
  · rw [e1, e2]
    exact carry_at _ _ _ f b 400
  · rw [outsAt0_A m c t h0]
    dsimp only
    unfold out0_A_1
    rw [rows_A, rowsIn_eq, filledIn_eq, filledIn_eq]
    exact (rows_left _ _ _ _ r f b).trans (outRow_at _ _ _ f b r.val)

/-- A later point starts from what the point before left. -/
theorem left_later (t : Fin cfg0.N) (h0 : ¬t.val % 10 = 0) :
    Left m c t (outsAt0 m c (t.val - 1) (Nat.lt_of_le_of_lt (Nat.sub_le _ _) t.isLt)).2.1
      (outsAt0 m c (t.val - 1) (Nat.lt_of_le_of_lt (Nat.sub_le _ _) t.isLt)).2.2 := by
  generalize hs : outsAt0 m c (t.val - 1) (Nat.lt_of_le_of_lt (Nat.sub_le _ _) t.isLt) = s
  have e := outsAt0_B m c t h0
  rw [hs] at e
  have e1 : (outsAt0 m c t.val t.isLt).2.1 = (carry (row (iblk m c 0 t)) s.2.1 s.2.2 400).1 := by
    rw [e]
    dsimp only
    unfold sout0_B_0
    rw [mean_B, rowsIn_eq, scratchIn_eq, scratchIn_eq]
    exact mean_left _ _ _ _
  have e2 : (outsAt0 m c t.val t.isLt).2.2 = (carry (row (iblk m c 0 t)) s.2.1 s.2.2 400).2 := by
    rw [e]
    dsimp only
    unfold sout0_B_1
    rw [variance_B, rowsIn_eq, scratchIn_eq, scratchIn_eq]
    exact variance_left _ _ _ _
  refine ⟨fun f b => ?_, fun r f b => ?_⟩
  · rw [e1, e2]
    exact carry_at _ _ _ f b 400
  · rw [e]
    dsimp only
    unfold out0_B_1
    rw [rows_B, rowsIn_eq, scratchIn_eq, scratchIn_eq]
    exact (rows_left _ _ _ _ r f b).trans (outRow_at _ _ _ f b r.val)

/-- A lane run over the first `r` rows of a point's block, from the lane's carry at the point's first time, is the lane's
    carry at the row's time. -/
theorem run_block (t : Fin cfg0.N) (f : Fin 64) (b : Fin 128) (r : ℕ) (hr : r ≤ 400) :
    run kerStep (carryAt (arg m c) (batch t.val (point_lt t) b) f (400 * (t.val % 10)))
        (seriesOf (row (iblk m c 0 t)) f b) r
      = carryAt (arg m c) (batch t.val (point_lt t) b) f (400 * (t.val % 10) + r) := by
  unfold carryAt
  rw [run_add]
  exact run_congr _ _ _ fun s hs => block_row m c t s (by omega) f b

/-- What every point starts from: the lanes' carries at its first time. -/
theorem left_from (n : ℕ) : ∀ (hn : n < cfg0.N), ∃ mu v2 : Vec Ideal S64x128 .f32, Left m c ⟨n, hn⟩ mu v2
    ∧ ∀ f b, (at2 mu f b, at2 v2 f b)
      = carryAt (arg m c) (batch n (point_lt ⟨n, hn⟩) b) f (400 * (n % 10)) := by
  induction n with
  | zero =>
    exact fun hn => ⟨_, _, left_first m c ⟨0, hn⟩ rfl, fun f b => by rw [fill_mean, fill_variance]; rfl⟩
  | succ n ih =>
    intro hn
    by_cases h0 : (n + 1) % 10 = 0
    · refine ⟨_, _, left_first m c ⟨n + 1, hn⟩ h0, fun f b => ?_⟩
      rw [fill_mean, fill_variance, h0]
      rfl
    · obtain ⟨mu, v2, hl, hs⟩ := ih (Nat.lt_of_succ_lt hn)
      refine ⟨_, _, left_later m c ⟨n + 1, hn⟩ h0, fun f b => ?_⟩
      refine (hl.scratch f b).trans ?_
      rw [hs f b, run_block m c ⟨n, Nat.lt_of_succ_lt hn⟩ f b 400 le_rfl]
      have e1 : (n + 1) / 10 = n / 10 := by omega
      have e2 : 400 * ((n + 1) % 10) = 400 * (n % 10) + 400 := by omega
      have e3 : batch (n + 1) (point_lt ⟨n + 1, hn⟩) b = batch n (point_lt ⟨n, Nat.lt_of_succ_lt hn⟩) b :=
        Fin.ext (show 128 * ((n + 1) / 10) + b.val = 128 * (n / 10) + b.val by rw [e1])
      rw [e2, e3]

/-- The lane's output at a time. -/
def outputAt (x : Vec Ideal S256x4000x64 .f32) (b : Fin 256) (f : Fin 64) (t : ℕ) : EReal :=
  kerOut (carryAt x b f t) (series x b f t)

/-- The block a point writes back holds the lanes' outputs. -/
theorem block_out (t : Fin cfg0.N) (r : Fin 400) (f : Fin 64) (b : Fin 128) :
    ((outsAt0 m c t.val t.isLt).1 (ix3 r f b) : EReal)
      = outputAt (arg m c) (batch t.val (point_lt t) b) f (400 * (t.val % 10) + r.val) := by
  obtain ⟨mu, v2, hl, hs⟩ := left_from m c t.val t.isLt
  refine (hl.rows r f b).trans ?_
  rw [hs f b, run_block m c t f b r.val (Nat.le_of_lt r.isLt), block_row m c t r.val r.isLt f b]
  rfl

end Points

end Cert.KernelIdeal.KernelPoints

end
-- ==== Proof.KernelRun.lean ====
/-
  The kernel's run, from its grid points to its result: the blocks written back fill the output array, and the transpose
  after the region puts batch first again.
-/
module

public import proofs.«01_k».proof.Proof.KernelPoints

@[expose] public section

set_option maxRecDepth 16384

noncomputable section

namespace Cert.KernelIdeal.KernelRun

open Idealize.ShloMosaic Idealize.ShloMosaic.TcCoe Idealize.ShloMosaic.StableHlo Idealize.ShloMosaic.Pipeline
open Idealize.SL.Sem
open Cert.KernelIdeal Cert.KernelIdeal.Gen Cert.KernelIdeal.KernelPoints

/-- An index of the output array lies in a point's block when each coordinate lies between the block's bounds. -/
theorem mem_block (t : Fin cfg0.N) (i : (⟨3, ![4000, 64, 256]⟩ : Shape).Idx) :
    i ∈ ((cfg0.win 1).blk t).view.set
      ↔ ∀ a : Fin 3, win0_1.index t a * S400x64x128.size a ≤ i a ∧ i a < win0_1.index t a * S400x64x128.size a + S400x64x128.size a := by
  show i ∈ ((View.whole main_v1).slice (win0_1.rect t)).set ↔ _
  rw [View.set_slice_whole, Rect.mem_set_unit]
  exact Iff.rfl

/-- The point whose block holds a time and a batch. -/
def pointOf (t : Fin 4000) (b : Fin 256) : Fin cfg0.N :=
  ⟨10 * (b.val / 128) + t.val / 400, Nat.lt_of_lt_of_eq (by omega : _ < 20) N_0.symm⟩

/-- The points' blocks fill the output array. -/
theorem covered (i : (⟨3, ![4000, 64, 256]⟩ : Shape).Idx) :
    ∃ t : Fin cfg0.N, (cfg0.win 1).flush t = true ∧ i ∈ ((cfg0.win 1).blk t).view.set := by
  obtain ⟨t, f, b, rfl⟩ : ∃ (t : Fin 4000) (f : Fin 64) (b : Fin 256), i = ix3 t f b :=
    ⟨i 0, i 1, i 2, (ix3_eta i).symm⟩
  refine ⟨pointOf t b, flush0_1 _, ?_⟩
  rw [mem_block]
  obtain ⟨e0, e1, e2⟩ := out_block (pointOf t b)
  have e : (pointOf t b).val = 10 * (b.val / 128) + t.val / 400 := rfl
  intro a
  match a with
  | 0 =>
    show win0_1.index (pointOf t b) (0 : Fin 3) * 400 ≤ t.val ∧ t.val < win0_1.index (pointOf t b) (0 : Fin 3) * 400 + 400
    rw [e0, e]; omega
  | 1 =>
    show win0_1.index (pointOf t b) (1 : Fin 3) * 64 ≤ f.val ∧ f.val < win0_1.index (pointOf t b) (1 : Fin 3) * 64 + 64
    rw [e1]; omega
  | 2 =>
    show win0_1.index (pointOf t b) (2 : Fin 3) * 128 ≤ b.val ∧ b.val < win0_1.index (pointOf t b) (2 : Fin 3) * 128 + 128
    rw [e2, e]; omega

/-- The output array the region should leave: at every index the lane's output. -/
def target (x : Vec Ideal S256x4000x64 .f32) : Vec Ideal S4000x64x256 .f32 :=
  fun i => outputAt x (i 2) (i 1) (i 0).val

/-- The kernel's result of an argument: at every index the lane's output. -/
def result (x : Vec Ideal S256x4000x64 .f32) : Vec Ideal S256x4000x64 .f32 :=
  fun i => outputAt x (i 0) (i 2) (i 1).val

section Run

variable (m : (ℓ : Loc nD τ sig) → Buf (Elt Ideal) ℓ) (c : Dev nD)

/-- What a point writes back, at an index of its block, is the target where the block puts that index. -/
theorem written (t : Fin cfg0.N) (y : ((cfg0.win 1).xblock (cfg0.grid.coords t)).Idx) :
    ((dats m 0 c).flushed 1 t y : EReal) = target (arg m c) (((cfg0.win 1).blk t).view.emb y) := by
  obtain ⟨r, f, b, rfl⟩ : ∃ (r : Fin 400) (f : Fin 64) (b : Fin 128), y = ix3 r f b :=
    ⟨y 0, y 1, y 2, (ix3_eta (n0 := 400) (n1 := 64) (n2 := 128) y).symm⟩
  have e : (dats m 0 c).flushed 1 t = (outsAt0 m c t.val t.isLt).1 := by
    unfold Dat.flushed
    rw [after0_1]
    rfl
  rw [e]
  refine (block_out m c t r f b).trans ?_
  obtain ⟨e0, e1, e2⟩ := out_block t
  have h0 : (((cfg0.win 1).blk t).view.emb (ix3 r f b) (0 : Fin 3)).val = 400 * (t.val % 10) + r.val := by
    refine (Window.rect_emb_val win0_1 t _ (0 : Fin 3)).trans ?_
    show win0_1.index t (0 : Fin 3) * 400 + r.val = _
    rw [e0]; omega
  have h1 : ((cfg0.win 1).blk t).view.emb (ix3 r f b) (1 : Fin 3) = f := by
    refine Fin.ext ((Window.rect_emb_val win0_1 t _ (1 : Fin 3)).trans ?_)
    show win0_1.index t (1 : Fin 3) * 64 + f.val = _
    rw [e1]; omega
  have h2 : ((cfg0.win 1).blk t).view.emb (ix3 r f b) (2 : Fin 3) = batch t.val (point_lt t) b := by
    refine Fin.ext ((Window.rect_emb_val win0_1 t _ (2 : Fin 3)).trans ?_)
    show win0_1.index t (2 : Fin 3) * 128 + b.val = 128 * (t.val / 10) + b.val
    rw [e2]; omega
  show _ = outputAt (arg m c) (((cfg0.win 1).blk t).view.emb (ix3 r f b) (2 : Fin 3))
    (((cfg0.win 1).blk t).view.emb (ix3 r f b) (1 : Fin 3)) (((cfg0.win 1).blk t).view.emb (ix3 r f b) (0 : Fin 3)).val
  rw [h0, h1, h2]

/-- The region leaves the target in its output array. -/
theorem array_out : ((dats m 0 c).arrAt 1 cfg0.N : Vec Ideal S4000x64x256 .f32) = target (arg m c) :=
  funext fun i => (dats m 0 c).arrAt_forall_of_cover 1 (fun i v => v = target (arg m c) i)
    (fun t _ y => written m c t y) covered i

/-- No two windows share an array. -/
theorem arrays_distinct : Function.Injective (arrRef spec0) := by decide

/-- The transpose after the region turns the target into the result. -/
theorem tail_out : (afterTail₀ cfgs (dats m) 0 (V0 m) [hostOps1] c main_v2 : Vec Ideal S256x4000x64 .f32)
    = result (arg m c) := by
  have e : (afterTail₀ cfgs (dats m) 0 (V0 m) [hostOps1] c main_v2 : Vec Ideal S256x4000x64 .f32)
      = transpose S256x4000x64 [2, 0, 1] (target (arg m c)) transposes_S4000x64x256_S256x4000x64_2_0_1 := by
    unfold afterTail₀
    simp only [hostOps1, List.flatten_cons, List.flatten_nil, List.append_nil]
    after_results
    rw [← array_out m c]
    exact congrArg (fun v : Vec Ideal S4000x64x256 .f32 =>
      transpose S256x4000x64 [2, 0, 1] v transposes_S4000x64x256_S256x4000x64_2_0_1)
      (withArrays_arr spec0 arrays_distinct c (V0 m c) (fun w => (dats m 0 c).arrAt w cfg0.N) 1)
  rw [e]
  funext i
  rfl

end Run

/-- Every run of the kernel ends with the lanes' outputs at its result and its argument as it was. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v2) : Vec Ideal S256x4000x64 .f32) = result (arg m c)
      ∧ r.2.mem ((c.tc : Thread nD τ).loc main_arg0) = m ((c.tc : Thread nD τ).loc main_arg0) :=
  (θ_run defs _ _).mono (fun _ h c =>
    ⟨((h c).2 main_v2 (mem_restRefs_of main_v2 (by decide) (by decide))).trans (tail_out m c),
      ((h c).2 main_arg0 (mem_restRefs_of main_arg0 (by decide) (by decide))).trans (W_main_arg0 m (dats m) c)⟩)
    (run_main m ρ)

end Cert.KernelIdeal.KernelRun

end
-- ==== Proof.Agree.lean ====
/-
  The two programs return the same array: each one's result is its lane's output at every index, and the lanes agree.
-/
module

public import proofs.«01_k».proof.Defs
public import proofs.«01_k».proof.Proof.KernelRun

@[expose] public section

noncomputable section

namespace Cert.Agree

open Idealize.ShloMosaic Idealize.ShloMosaic.TcCoe Idealize.SL.Sem

/-- The kernel's result of an argument is the reference's: the lanes meet at the start, so their outputs are equal at
    every time. -/
theorem results_eq (x : Vec Ideal Cert.KernelIdeal.S256x4000x64 .f32) : KernelIdeal.KernelRun.result x = RefRun.result x :=
  funext fun i => (Lane.outputs_eq (Consts.meets0 (i 2).val) (RefRun.series x (i 0) (i 2)) (i 1).val).2

/-- From memories that hold the same argument, the kernel and the reference return the same array. -/
theorem algebraic : Cert.algebraic_KernelIdeal_ReferenceIdeal := fun m g m' g' _ hm =>
  ⟨fun c => KernelIdeal.KernelRun.result (KernelIdeal.KernelPoints.arg m c),
    KernelIdeal.KernelRun.run_kernel m g,
    (θ_run Cert.ReferenceIdeal.defs _ _).mono
      (fun _ h c => ⟨(h c).1.trans ((congrArg RefRun.result (hm c)).trans (results_eq _).symm), (h c).2⟩)
      (RefRun.run_reference m' g')⟩

end Cert.Agree

end
-- ==== Proof.lean ====
/- The claims put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Lane
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The three frames, the named constants, and the equality of the two results. -/
theorem claim : Cert.Claim := ⟨Cert.Kernel.Gen.facts, Cert.KernelIdeal.Gen.facts, Cert.ReferenceIdeal.Gen.facts,
  Cert.Frames.frame_kernel, Cert.Frames.frame_kernelIdeal, Cert.Frames.frame_referenceIdeal, Cert.Frames.preserves,
  Cert.Agree.algebraic⟩

end Cert.Proof

end
